-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S1024x100000 : Shape := ⟨2, ![1024, 100000]⟩
abbrev S1024 : Shape := ⟨1, ![1024]⟩
abbrev S1024x512 : Shape := ⟨2, ![1024, 512]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) (main_arg2 : FVec F S1024x512 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S1024x512 : Shape := ⟨2, ![1024, 512]⟩
abbrev S1024x1 : Shape := ⟨2, ![1024, 1]⟩
abbrev S1024x2048 : Shape := ⟨2, ![1024, 2048]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 5
  | .vmem => 7
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x512, .f32⟩
  | .hbm, ⟨3, _⟩ => ⟨S1024x1, .i32⟩
  | .hbm, ⟨4, _⟩ => ⟨S1024x100000, .f32⟩
  | .local _ .vmem, ⟨0, _⟩ => ⟨S1024x1, .i32⟩
  | .local _ .vmem, ⟨1, _⟩ => ⟨S1024x2048, .f32⟩
  | .local _ .vmem, ⟨2, _⟩ => ⟨S1024x2048, .f32⟩
  | .local _ .vmem, ⟨3, _⟩ => ⟨S1024x512, .f32⟩
  | .local _ .vmem, ⟨4, _⟩ => ⟨S1024x2048, .f32⟩
  | .local _ .vmem, ⟨5, _⟩ => ⟨S1024x2048, .f32⟩
  | .local _ .vmem, ⟨6, _⟩ => ⟨S1024x1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x100000 : Shape := ⟨2, ![1024, 100000]⟩
abbrev S1024 : Shape := ⟨1, ![1024]⟩
abbrev S1024x512 : Shape := ⟨2, ![1024, 512]⟩
abbrev S_ : Shape := ⟨0, ![]⟩
abbrev S1024x1 : Shape := ⟨2, ![1024, 1]⟩
abbrev S1024x2 : Shape := ⟨2, ![1024, 2]⟩
abbrev S1x1 : Shape := ⟨2, ![1, 1]⟩

abbrev nBuf : Space → Nat
  | .hbm => 171
  | .vmem => 0
  | .smem => 0
  | _ => 0

abbrev hbmTy0_0 (i : Nat) : BufTy := match i % 128 with
  | 0 => ⟨S1024x100000, .f32⟩
  | 1 => ⟨S1024, .i32⟩
  | 2 => ⟨S1024x512, .f32⟩
  | 3 => ⟨S1024, .i32⟩
  | 4 => ⟨S_, .f32⟩
  | 5 => ⟨S_, .f32⟩
  | 6 => ⟨S_, .f32⟩
  | 7 => ⟨S1024x100000, .f32⟩
  | 8 => ⟨S1024x100000, .f32⟩
  | 9 => ⟨S_, .f32⟩
  | 10 => ⟨S1024x100000, .f32⟩
  | 11 => ⟨S1024x100000, .f32⟩
  | 12 => ⟨S_, .i32⟩
  | 13 => ⟨S1024, .i32⟩
  | 14 => ⟨S1024, .i1⟩
  | 15 => ⟨S_, .i32⟩
  | 16 => ⟨S1024, .i32⟩
  | 17 => ⟨S1024, .i32⟩
  | 18 => ⟨S1024, .i32⟩
  | 19 => ⟨S_, .i32⟩
  | 20 => ⟨S1024, .i32⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024x1, .i32⟩
  | 28 => ⟨S1024x2, .i32⟩
  | 29 => ⟨S1024, .f32⟩
  | 30 => ⟨S1024x512, .f32⟩
  | 31 => ⟨S_, .f32⟩
  | 32 => ⟨S1024, .f32⟩
  | 33 => ⟨S1024x1, .f32⟩
  | 34 => ⟨S1024x1, .f32⟩
  | 35 => ⟨S_, .f32⟩
  | 36 => ⟨S_, .f32⟩
  | 37 => ⟨S_, .f32⟩
  | 38 => ⟨S1024x1, .f32⟩
  | 39 => ⟨S1024x1, .f32⟩
  | 40 => ⟨S_, .f32⟩
  | 41 => ⟨S1024x1, .f32⟩
  | 42 => ⟨S1024x1, .f32⟩
  | 43 => ⟨S_, .i32⟩
  | 44 => ⟨S1024, .i32⟩
  | 45 => ⟨S1024, .i1⟩
  | 46 => ⟨S_, .i32⟩
  | 47 => ⟨S1024, .i32⟩
  | 48 => ⟨S1024, .i32⟩
  | 49 => ⟨S1024, .i32⟩
  | 50 => ⟨S1024x1, .i32⟩
  | 51 => ⟨S1024x1, .f32⟩
  | 52 => ⟨S_, .f32⟩
  | 53 => ⟨S_, .f32⟩
  | 54 => ⟨S_, .f32⟩
  | 55 => ⟨S_, .f32⟩
  | 56 => ⟨S_, .i32⟩
  | 57 => ⟨S_, .f32⟩
  | 58 => ⟨S_, .f32⟩
  | 59 => ⟨S1x1, .f32⟩
  | 60 => ⟨S_, .f32⟩
  | 61 => ⟨S1x1, .f32⟩
  | 62 => ⟨S1x1, .f32⟩
  | 63 => ⟨S1024x1, .f32⟩
  | 64 => ⟨S1024x1, .f32⟩
  | 65 => ⟨S1024x1, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .i1⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1024x1, .f32⟩
  | 87 => ⟨S1024x1, .f32⟩
  | 88 => ⟨S_, .f32⟩
  | 89 => ⟨S_, .f32⟩
  | 90 => ⟨S1024x1, .f32⟩
  | 91 => ⟨S1024x1, .f32⟩
  | 92 => ⟨S_, .f32⟩
  | 93 => ⟨S1024x1, .f32⟩
  | 94 => ⟨S1024x1, .f32⟩
  | 95 => ⟨S_, .f32⟩
  | 96 => ⟨S_, .f32⟩
  | 97 => ⟨S_, .f32⟩
  | 98 => ⟨S1024x1, .f32⟩
  | 99 => ⟨S1024x1, .f32⟩
  | 100 => ⟨S_, .f32⟩
  | 101 => ⟨S1024x1, .f32⟩
  | 102 => ⟨S1024x1, .f32⟩
  | 103 => ⟨S1024, .f32⟩
  | 104 => ⟨S1024, .f32⟩
  | 105 => ⟨S_, .f32⟩
  | 106 => ⟨S1024, .f32⟩
  | 107 => ⟨S1024, .f32⟩
  | 108 => ⟨S_, .f32⟩
  | 109 => ⟨S1024, .f32⟩
  | 110 => ⟨S1024, .f32⟩
  | 111 => ⟨S1024x100000, .f32⟩
  | 112 => ⟨S_, .f32⟩
  | 113 => ⟨S1024, .f32⟩
  | 114 => ⟨S1024, .f32⟩
  | 115 => ⟨S1024, .f32⟩
  | 116 => ⟨S_, .i32⟩
  | 117 => ⟨S1024, .i32⟩
  | 118 => ⟨S1024, .i1⟩
  | 119 => ⟨S_, .i32⟩
  | 120 => ⟨S1024, .i32⟩
  | 121 => ⟨S1024, .i32⟩
  | 122 => ⟨S1024, .i32⟩
  | 123 => ⟨S_, .i32⟩
  | 124 => ⟨S1024, .i32⟩
  | 125 => ⟨S1024, .i1⟩
  | 126 => ⟨S_, .i32⟩
  | 127 => ⟨S1024, .i32⟩
  | _ => ⟨S1024x100000, .f32⟩

abbrev hbmTy0_1 (i : Nat) : BufTy := match i % 128 with
  | 0 => ⟨S1024, .i32⟩
  | 1 => ⟨S1024, .i32⟩
  | 2 => ⟨S1024x1, .i32⟩
  | 3 => ⟨S1024x1, .i32⟩
  | 4 => ⟨S1024x2, .i32⟩
  | 5 => ⟨S1024x100000, .f32⟩
  | 6 => ⟨S_, .f32⟩
  | 7 => ⟨S_, .f32⟩
  | 8 => ⟨S_, .f32⟩
  | 9 => ⟨S1024x100000, .f32⟩
  | 10 => ⟨S1024x100000, .f32⟩
  | 11 => ⟨S_, .f32⟩
  | 12 => ⟨S1024x100000, .f32⟩
  | 13 => ⟨S1024x100000, .f32⟩
  | 14 => ⟨S1024x100000, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .i32⟩
  | 23 => ⟨S1024, .i32⟩
  | 24 => ⟨S1024, .i1⟩
  | 25 => ⟨S_, .i32⟩
  | 26 => ⟨S1024, .i32⟩
  | 27 => ⟨S1024, .i32⟩
  | 28 => ⟨S1024, .i32⟩
  | 29 => ⟨S_, .i32⟩
  | 30 => ⟨S1024, .i32⟩
  | 31 => ⟨S1024, .i1⟩
  | 32 => ⟨S_, .i32⟩
  | 33 => ⟨S1024, .i32⟩
  | 34 => ⟨S1024, .i32⟩
  | 35 => ⟨S1024, .i32⟩
  | 36 => ⟨S1024x1, .i32⟩
  | 37 => ⟨S1024x1, .i32⟩
  | 38 => ⟨S1024x2, .i32⟩
  | 39 => ⟨S1024x100000, .f32⟩
  | 40 => ⟨S_, .f32⟩
  | 41 => ⟨S1024x100000, .f32⟩
  | 42 => ⟨S1024x100000, .f32⟩
  | _ => ⟨S1024x100000, .f32⟩

abbrev hbmTy (i : Nat) : BufTy := match i / 128 with
  | 0 => hbmTy0_0 i
  | 1 => hbmTy0_1 i
  | _ => ⟨S1024x100000, .f32⟩

abbrev bufTy : (tb : Table) → Fin (tcTables nBuf tb) → BufTy
  | .hbm, ⟨i, _⟩ => hbmTy i
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_cst_4 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v17 : Ref sig .tc := ⟨.hbm, 42, rfl⟩
abbrev main_c_6 : Ref sig .tc := ⟨.hbm, 43, rfl⟩
abbrev main_v18 : Ref sig .tc := ⟨.hbm, 44, rfl⟩
abbrev main_v19 : Ref sig .tc := ⟨.hbm, 45, rfl⟩
abbrev main_c_7 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_8 : Ref sig .tc := ⟨.hbm, 52, rfl⟩
abbrev main_v25 : Ref sig .tc := ⟨.hbm, 53, rfl⟩
abbrev main_cst_9 : Ref sig .tc := ⟨.hbm, 54, rfl⟩
abbrev main_v26 : Ref sig .tc := ⟨.hbm, 55, rfl⟩
abbrev main_c_10 : Ref sig .tc := ⟨.hbm, 56, rfl⟩
abbrev main_call3_call0_cst : Ref sig .tc := ⟨.hbm, 57, rfl⟩
abbrev main_call3_call0_v0 : Ref sig .tc := ⟨.hbm, 58, rfl⟩
abbrev main_call3_call0_v1 : Ref sig .tc := ⟨.hbm, 59, rfl⟩
abbrev main_call3_call0_cst_0 : Ref sig .tc := ⟨.hbm, 60, rfl⟩
abbrev main_call3_call0_v2 : Ref sig .tc := ⟨.hbm, 61, rfl⟩
abbrev main_call3_call0_v3 : Ref sig .tc := ⟨.hbm, 62, rfl⟩
abbrev main_call3_call0_v4 : Ref sig .tc := ⟨.hbm, 63, rfl⟩
abbrev main_call3_call0_v5 : Ref sig .tc := ⟨.hbm, 64, rfl⟩
abbrev main_call3_call0_v6 : Ref sig .tc := ⟨.hbm, 65, rfl⟩
abbrev main_call3_call0_v7 : Ref sig .tc := ⟨.hbm, 66, rfl⟩
abbrev main_call3_call0_cst_1 : Ref sig .tc := ⟨.hbm, 67, rfl⟩
abbrev main_call3_call0_v8 : Ref sig .tc := ⟨.hbm, 68, rfl⟩
abbrev main_call3_call0_cst_2 : Ref sig .tc := ⟨.hbm, 69, rfl⟩
abbrev main_call3_call0_v9 : Ref sig .tc := ⟨.hbm, 70, rfl⟩
abbrev main_call3_call0_v10 : Ref sig .tc := ⟨.hbm, 71, rfl⟩
abbrev main_call3_call0_cst_3 : Ref sig .tc := ⟨.hbm, 72, rfl⟩
abbrev main_call3_call0_v11 : Ref sig .tc := ⟨.hbm, 73, rfl⟩
abbrev main_call3_call0_cst_4 : Ref sig .tc := ⟨.hbm, 74, rfl⟩
abbrev main_call3_call0_call0_v0 : Ref sig .tc := ⟨.hbm, 75, rfl⟩
abbrev main_call3_v0 : Ref sig .tc := ⟨.hbm, 76, rfl⟩
abbrev main_v27 : Ref sig .tc := ⟨.hbm, 77, rfl⟩
abbrev main_cst_11 : Ref sig .tc := ⟨.hbm, 78, rfl⟩
abbrev main_v28 : Ref sig .tc := ⟨.hbm, 79, rfl⟩
abbrev main_cst_12 : Ref sig .tc := ⟨.hbm, 80, rfl⟩
abbrev main_v29 : Ref sig .tc := ⟨.hbm, 81, rfl⟩
abbrev main_cst_13 : Ref sig .tc := ⟨.hbm, 82, rfl⟩
abbrev main_v30 : Ref sig .tc := ⟨.hbm, 83, rfl⟩
abbrev main_cst_14 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_15 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_16 : Ref sig .tc := ⟨.hbm, 92, rfl⟩
abbrev main_v37 : Ref sig .tc := ⟨.hbm, 93, rfl⟩
abbrev main_v38 : Ref sig .tc := ⟨.hbm, 94, rfl⟩
abbrev main_cst_17 : Ref sig .tc := ⟨.hbm, 95, rfl⟩
abbrev main_cst_18 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_cst_19 : Ref sig .tc := ⟨.hbm, 105, rfl⟩
abbrev main_v42 : Ref sig .tc := ⟨.hbm, 106, rfl⟩
abbrev main_v43 : Ref sig .tc := ⟨.hbm, 107, rfl⟩
abbrev main_cst_20 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_cst_21 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_c_22 : Ref sig .tc := ⟨.hbm, 116, rfl⟩
abbrev main_v50 : Ref sig .tc := ⟨.hbm, 117, rfl⟩
abbrev main_v51 : Ref sig .tc := ⟨.hbm, 118, rfl⟩
abbrev main_c_23 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_c_24 : Ref sig .tc := ⟨.hbm, 123, rfl⟩
abbrev main_v55 : Ref sig .tc := ⟨.hbm, 124, rfl⟩
abbrev main_v56 : Ref sig .tc := ⟨.hbm, 125, rfl⟩
abbrev main_c_25 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_cst_26 : Ref sig .tc := ⟨.hbm, 134, rfl⟩
abbrev main_cst_27 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_v64 : Ref sig .tc := ⟨.hbm, 141, rfl⟩
abbrev main_v65 : Ref sig .tc := ⟨.hbm, 142, rfl⟩
abbrev main_cst_28 : Ref sig .tc := ⟨.hbm, 143, rfl⟩
abbrev main_v66 : Ref sig .tc := ⟨.hbm, 144, rfl⟩
abbrev main_v67 : Ref sig .tc := ⟨.hbm, 145, rfl⟩
abbrev main_cst_29 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_c_30 : Ref sig .tc := ⟨.hbm, 150, rfl⟩
abbrev main_v71 : Ref sig .tc := ⟨.hbm, 151, rfl⟩
abbrev main_v72 : Ref sig .tc := ⟨.hbm, 152, rfl⟩
abbrev main_c_31 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_c_32 : Ref sig .tc := ⟨.hbm, 157, rfl⟩
abbrev main_v76 : Ref sig .tc := ⟨.hbm, 158, rfl⟩
abbrev main_v77 : Ref sig .tc := ⟨.hbm, 159, rfl⟩
abbrev main_c_33 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_cst_34 : Ref sig .tc := ⟨.hbm, 168, rfl⟩
abbrev main_v85 : Ref sig .tc := ⟨.hbm, 169, rfl⟩
abbrev main_v86 : Ref sig .tc := ⟨.hbm, 170, rfl⟩

abbrev nD : Nat := 1
abbrev τ : Topo := Topo.v7x

variable {F : FTy → Type} [FloatOps F]
-- ==== Proof.IdealStep.lean ====
/-
  One grid point of the margin kernel, run on whole staging buffers. At the first point the body first fills its scratch
  column from the embeddings and then reads it back; at every other point it only reads it. Either way the result's
  buffer ends at the payload `blockOut` of the labels, the logits' block and the scratch column.
-/
module

public import proofs.«01_k».proof.Proof.Gen.KernelIdeal.Frame
public import proofs.«01_k».proof.Proof.Gen.KernelIdeal.Skeleton
public import Idealize.ShloMosaic.Lib.Pipeline.Value

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the frame kit's. -/
local notation "𝕄" => MT nD τ sig Unit (Elt F) ℕ (UR sig nD τ) ℕ

/-- The kernel has no variants. -/
abbrev 𝒱₀ : Variants := Variants.none

/-- The branch the body takes at grid coordinates `i`: the word it compares, as printed (one exactly at the first
    point). -/
abbrev isFirst (i : grid0.Coords) : Prop :=
  Scalar.cmpi .ne (Scalar.extui (Scalar.cmpi .eq (BitVec.ofNat 32 (i 0).val) 0#32) : BitVec 32) 0#32 = 1#1

/-- The result block: from the labels column, the logits' block and the scratch column. -/
def blockOut (i : grid0.Coords) (lab : Vec F S1024x1 .i32) (x : Vec F S1024x2048 .f32) (s : Vec F S1024x1 .f32) :
    FVec F S1024x2048 .f32 :=
  k0_pay1 (k0_pay3 x) (k0_pay4 i lab) (k0_pay5 s) (k0_pay6 i x lab) (k0_pay7 s)

/-- The two zero offsets every access of the body has. -/
theorem zeros2 : (![0, 0] : Fin 2 → Nat) = fun _ => 0 := funext fun a => by fin_cases a <;> rfl

section Whole
variable {S : Shape} {e : EltTy} {Val : EltTy → Type} [∀ e, Nonempty (Val e)] {sp : Space}

/-- A store over the whole buffer leaves what was stored, whatever was there. -/
theorem read_after_store (v : View sig .tc sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ fun y => ⟨_, List.mem_singleton_self _, View.mem_set_unit_zero h inb y⟩,
    View.canon_unit_zero h inb w]

/-- A load of the whole buffer reads its contents. -/
theorem read_whole (v : View sig .tc sp S e) (f : v.ty.Contents Val) {off : Fin S.rank → Nat} (h : off = fun _ => 0)
    (inb : ∀ a, off a + S.size a ≤ S.size a) : v.readAt Val (Rect.unit off S.size inb).toLoadRect f = v.read Val f :=
  View.ld_unit_zero h inb (v.read Val f)

end Whole

set_option maxHeartbeats 1000000 in
/-- The body at the first point: the scratch holds anything before, and afterwards the margin scaler computed from the
    embeddings. -/
theorem run_first (c : Dev nD) (i : grid0.Coords) (hc : isFirst i)
    (M1 : Memref sig .tc .vmem S1024x1 .i32) (h1 : M1.IsWhole) (M2 : Memref sig .tc .vmem S1024x2048 .f32) (h2 : M2.IsWhole)
    (M3 : Memref sig .tc .vmem S1024x512 .f32) (h3 : M3.IsWhole) (M4 : Memref sig .tc .vmem S1024x2048 .f32) (h4 : M4.IsWhole)
    (M5 : Memref sig .tc .vmem S1024x1 .f32) (h5 : M5.IsWhole)
    (x1 : Vec F S1024x1 .i32) (x2 : Vec F S1024x2048 .f32) (x3 : Vec F S1024x512 .f32)
    (E : Set ℕ) (K : PUnit → sProp 𝕄) :
    iprop(owns (c : Thread nD τ) M1 fullShare x1 ∗ owns (c : Thread nD τ) M2 fullShare x2 ∗ owns (c : Thread nD τ) M3 fullShare x3
        ∗ (∃ d, owns (c : Thread nD τ) M4 fullShare d) ∗ (∃ d, owns (c : Thread nD τ) M5 fullShare d)
        ∗ (iprop(owns (c : Thread nD τ) M1 fullShare x1 ∗ owns (c : Thread nD τ) M2 fullShare x2 ∗ owns (c : Thread nD τ) M3 fullShare x3
              ∗ owns (c : Thread nD τ) M4 fullShare (blockOut i x1 x2 (k0_pay2 x3)) ∗ owns (c : Thread nD τ) M5 fullShare (k0_pay2 x3)) -∗ K ⟨⟩))
      ⊢ wp frame (wpE (defs₀ (F := F)) 𝒱₀ c none) E (cc0__adaface_kernel i M1 h1 M2 h2 M3 h3 M4 h4 M5 h5) K := by
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := h1.eq_unread hf1; obtain rfl := h2.eq_unread hf2; obtain rfl := h3.eq_unread hf3
  simp only [cc0__adaface_kernel_eq_skeleton]; unfold cc0__adaface_kernel_skel
  sl_exec (disch := sl_exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_after_store _ _ zeros2]
    unfold run_first.sl.r run_first.sl.r_1 run_first.sl.r_2 run_first.sl.r_3 run_first.sl.r_4 run_first.sl.v20 run_first.sl.H5_1 blockOut
    rw [View.readCov_unit_zero _ zeros2, (read_whole _ _ zeros2 _).trans hf1, (read_whole _ _ zeros2 _).trans hf2,
      (read_whole _ _ zeros2 _).trans hf3]
  · iexists _; isplitr; swap; · iexact H5
    ipureintro
    unfold run_first.sl.H5_1
    rw [read_after_store _ _ zeros2, read_whole _ _ zeros2, hf3]

set_option maxHeartbeats 1000000 in
/-- The body at a later point: the scratch column is read and kept, the embeddings are not read. -/
theorem run_later (c : Dev nD) (i : grid0.Coords) (hc : ¬ isFirst i)
    (M1 : Memref sig .tc .vmem S1024x1 .i32) (h1 : M1.IsWhole) (M2 : Memref sig .tc .vmem S1024x2048 .f32) (h2 : M2.IsWhole)
    (M3 : Memref sig .tc .vmem S1024x512 .f32) (h3 : M3.IsWhole) (M4 : Memref sig .tc .vmem S1024x2048 .f32) (h4 : M4.IsWhole)
    (M5 : Memref sig .tc .vmem S1024x1 .f32) (h5 : M5.IsWhole)
    (x1 : Vec F S1024x1 .i32) (x2 : Vec F S1024x2048 .f32) (s : Vec F S1024x1 .f32)
    (E : Set ℕ) (K : PUnit → sProp 𝕄) :
    iprop(owns (c : Thread nD τ) M1 fullShare x1 ∗ owns (c : Thread nD τ) M2 fullShare x2
        ∗ (∃ d, owns (c : Thread nD τ) M4 fullShare d) ∗ owns (c : Thread nD τ) M5 fullShare s
        ∗ (iprop(owns (c : Thread nD τ) M1 fullShare x1 ∗ owns (c : Thread nD τ) M2 fullShare x2
              ∗ owns (c : Thread nD τ) M4 fullShare (blockOut i x1 x2 s) ∗ owns (c : Thread nD τ) M5 fullShare s) -∗ K ⟨⟩))
      ⊢ wp frame (wpE (defs₀ (F := F)) 𝒱₀ c none) E (cc0__adaface_kernel i M1 h1 M2 h2 M3 h3 M4 h4 M5 h5) K := by
  unfold owns
  iintro ⟨⟨%f1, %hf1, H1⟩, ⟨%f2, %hf2, H2⟩, ⟨%d4, %f4, -, H4⟩, ⟨%f5, %hf5, H5⟩, Hk⟩
  obtain rfl := h1.eq_unread hf1; obtain rfl := h2.eq_unread hf2; obtain rfl := h5.eq_unread hf5
  simp only [cc0__adaface_kernel_eq_skeleton]; unfold cc0__adaface_kernel_skel
  sl_exec (disch := sl_exact hc)
  sl_step
  iapply Hk
  isplitl [H1]
  · iexists _; isplitr; · ipureintro; exact hf1
    iexact H1
  isplitl [H2]
  · iexists _; isplitr; · ipureintro; exact hf2
    iexact H2
  isplitl [H4]
  · iexists _; isplitr; swap; · iexact H4
    ipureintro
    rw [read_after_store _ _ zeros2]
    unfold run_later.sl.r run_later.sl.r_1 run_later.sl.r_2 run_later.sl.r_3 run_later.sl.r_4 blockOut
    rw [(read_whole _ _ zeros2 _).trans hf1, (read_whole _ _ zeros2 _).trans hf2, (read_whole _ _ zeros2 _).trans hf5]
  · iexists _; isplitr; · ipureintro; exact hf5
    iexact H5

end Cert.KernelIdeal.Hand

end
-- ==== Proof.Margin.lean ====
/-
  The margin loss in plain mathematics, over the extended reals.

  A logit is clipped into an interval inside (-1, 1). In the column a row's label names, the clipped logit's angle is
  scaled by a margin that depends on how long the row's embedding is, and a second margin is taken off its cosine; in
  every other column the clipped logit stays as it is. Everything is multiplied by 64 at the end.

  What is proved here is the analysis: the clipped logit is a real number inside (-1, 1), its angle is the arctangent of
  the two legs of a right triangle, and clipping the angle of a clipped logit does not move it, so that the cosine of the
  angle is the logit again.
-/
module

public import Idealize.ShloMosaic.PureOps.Ideal.Laws
public import Idealize.ShloMosaic.Lib.IdealHost
public import Mathlib.Analysis.SpecialFunctions.Trigonometric.Arctan

@[expose] public section

namespace Cert.Margin

open Idealize.ShloMosaic

/-! ## The constants, as the real numbers their words denote -/

/-- The upper end of the clipped logits. -/
noncomputable def hiR : ℝ := 16760439 / 16777216
/-- The smallest angle kept. -/
noncomputable def epsR : ℝ := 8589935 / 8589934592
/-- The largest angle kept. -/
noncomputable def topR : ℝ := 13172600 / 4194304
/-- The margin. -/
noncomputable def mR : ℝ := 13421773 / 33554432

theorem hi_word : Ideal.ofBits .f32 1065336439#32 = ((hiR : ℝ) : EReal) := by
  unfold hiR; simp [Ideal.ofBits, Ideal.ieee, -EReal.coe_mul]; norm_num
theorem lo_word : Ideal.ofBits .f32 3212820087#32 = ((-hiR : ℝ) : EReal) := by
  unfold hiR; simp [Ideal.ofBits, Ideal.ieee, -EReal.coe_mul, -EReal.coe_neg]; norm_num
theorem eps_word : Ideal.ofBits .f32 981668463#32 = ((epsR : ℝ) : EReal) := by
  unfold epsR; simp [Ideal.ofBits, Ideal.ieee, -EReal.coe_mul]; norm_num
theorem top_word : Ideal.ofBits .f32 1078525816#32 = ((topR : ℝ) : EReal) := by
  unfold topR; simp [Ideal.ofBits, Ideal.ieee, -EReal.coe_mul]; norm_num
theorem m_word : Ideal.ofBits .f32 1053609165#32 = ((mR : ℝ) : EReal) := by
  unfold mR; simp [Ideal.ofBits, Ideal.ieee, -EReal.coe_mul]; norm_num
theorem neg_m_word : Ideal.ofBits .f32 3201092813#32 = ((-mR : ℝ) : EReal) := by
  unfold mR; simp [Ideal.ofBits, Ideal.ieee, -EReal.coe_mul, -EReal.coe_neg]; norm_num
theorem neg_one_word : Ideal.ofBits .f32 3212836864#32 = ((-1 : ℝ) : EReal) := by
  simp [Ideal.ofBits, Ideal.ieee, -EReal.coe_mul, -EReal.coe_neg]; norm_num
theorem rows_word : Ideal.ofBits .f32 1149239296#32 = ((1024 : ℝ) : EReal) := by
  simp [Ideal.ofBits, Ideal.ieee, -EReal.coe_mul]; norm_num
theorem rows_less_one_word : Ideal.ofBits .f32 1149222912#32 = ((1023 : ℝ) : EReal) := by
  simp [Ideal.ofBits, Ideal.ieee, -EReal.coe_mul]; norm_num

/-! ## The mathematics -/

/-- A logit clipped into the interval. -/
noncomputable def clip (y : EReal) : EReal := min (Ideal.ofBits .f32 1065336439#32) (max (Ideal.ofBits .f32 3212820087#32) y)

/-- An angle clipped into the interval. -/
noncomputable def bend (y : EReal) : EReal := min (Ideal.ofBits .f32 1078525816#32) (max (Ideal.ofBits .f32 981668463#32) y)

/-- What a clipped logit `t` becomes in its row's label column, at margin scaler `s`. -/
noncomputable def target (t s : EReal) : EReal :=
  Ideal.cos (bend (Ideal.acos t * (1 + Ideal.ofBits .f32 3201092813#32 * s)))
    - (Ideal.ofBits .f32 1053609165#32 + Ideal.ofBits .f32 1053609165#32 * s)

/-- The length of row `r` of the embeddings, clipped. -/
noncomputable def safe (e : Fin 1024 → Fin 512 → EReal) (r : Fin 1024) : EReal :=
  min (Ideal.ofBits .f32 1120403456#32) (max (Ideal.ofBits .f32 981668463#32) (Ideal.sqrt (∑ x, e r x * e r x)))

/-- The mean of the clipped lengths. -/
noncomputable def mean (e : Fin 1024 → Fin 512 → EReal) : EReal :=
  Ideal.div (∑ r, safe e r) (Ideal.ofBits .f32 1149239296#32)

/-- Their standard deviation, with one degree of freedom taken off. -/
noncomputable def std (e : Fin 1024 → Fin 512 → EReal) : EReal :=
  Ideal.sqrt (Ideal.div (∑ r, (safe e r - mean e) * (safe e r - mean e)) (Ideal.ofBits .f32 1149222912#32))

/-- The margin scaler of row `r`. -/
noncomputable def scale (e : Fin 1024 → Fin 512 → EReal) (r : Fin 1024) : EReal :=
  min 1 (max (Ideal.ofBits .f32 3212836864#32)
    (Ideal.div (safe e r - mean e) (std e + Ideal.ofBits .f32 981668463#32) * Ideal.ofBits .f32 1051361018#32))

/-- The loss's element in a column whose clipped logit is `t`, at scaler `s`; `hit` says whether the label names it. -/
noncomputable def cell (hit : Prop) [Decidable hit] (t s : EReal) : EReal :=
  Ideal.ofBits .f32 1115684864#32 * (if hit then target t s else t)

/-- The loss at row `r` and column `k`, of the logits, the labels and the embeddings. -/
noncomputable def loss (X : Fin 1024 → Fin 100000 → EReal) (lab : Fin 1024 → BitVec 32) (e : Fin 1024 → Fin 512 → EReal)
    (r : Fin 1024) (k : Fin 100000) : EReal :=
  cell (BitVec.ofNat 32 k = lab r) (clip (X r k)) (scale e r)

/-! ## The analysis -/

theorem clip_real (y : EReal) : ∃ c : ℝ, clip y = (c : EReal) ∧ -hiR ≤ c ∧ c ≤ hiR := by
  have hh : (-hiR : ℝ) ≤ hiR := by unfold hiR; norm_num
  unfold clip
  rw [hi_word, lo_word]
  have hlo : ((-hiR : ℝ) : EReal) ≤ min ((hiR : ℝ) : EReal) (max ((-hiR : ℝ) : EReal) y) :=
    le_min (by exact_mod_cast hh) (le_max_left _ _)
  have hhi : min ((hiR : ℝ) : EReal) (max ((-hiR : ℝ) : EReal) y) ≤ ((hiR : ℝ) : EReal) := min_le_left _ _
  generalize min ((hiR : ℝ) : EReal) (max ((-hiR : ℝ) : EReal) y) = z at hlo hhi
  induction z using EReal.rec with
  | bot => exact absurd hlo (by simp)
  | top => exact absurd hhi (by simp)
  | coe c => exact ⟨c, rfl, by exact_mod_cast hlo, by exact_mod_cast hhi⟩

theorem clip_of_mem (c : ℝ) (h1 : -hiR ≤ c) (h2 : c ≤ hiR) : clip (c : EReal) = c := by
  unfold clip
  rw [hi_word, lo_word, max_eq_right (by exact_mod_cast h1), min_eq_right (by exact_mod_cast h2)]

/-- Clipping twice is clipping once. -/
theorem clip_clip (y : EReal) : clip (clip y) = clip y := by
  obtain ⟨c, h, h1, h2⟩ := clip_real y
  rw [h, clip_of_mem c h1 h2]

theorem arccos_eq_legs (c : ℝ) (h1 : -1 < c) (h2 : c < 1) :
    (if 0 < c then Real.arctan (√(1 - c * c) / c)
      else if c < 0 then Real.arctan (√(1 - c * c) / c) + Real.pi else Real.pi / 2) = Real.arccos c := by
  rcases lt_trichotomy c 0 with h | h | h
  · rw [if_neg (by linarith), if_pos h]
    have := Real.arccos_eq_arctan (x := -c) (by linarith)
    rw [Real.arccos_neg] at this
    have e : √(1 - c * c) / c = -(√(1 - (-c) ^ 2) / (-c)) := by
      rw [div_neg, neg_neg]; congr 2; ring
    rw [e, Real.arctan_neg]; linarith
  · subst h; simp
  · rw [if_pos h, Real.arccos_eq_arctan h, pow_two]

/-- The angle of a clipped logit is the arctangent of its two legs. -/
theorem atan2_legs (y : EReal) :
    Ideal.atan2 (Ideal.sqrt (1 - clip y * clip y)) (clip y) = Ideal.acos (clip y) := by
  obtain ⟨c, h, h1, h2⟩ := clip_real y
  have g1 : -1 < c := by unfold hiR at h1; linarith
  have g2 : c < 1 := by unfold hiR at h2; linarith
  have hs : 0 < 1 - c * c := by nlinarith
  rw [h]
  have e : (1 : EReal) - (c : EReal) * (c : EReal) = ((1 - c * c : ℝ) : EReal) := by
    rw [← EReal.coe_mul, ← EReal.coe_one, ← EReal.coe_sub]
  rw [e, Ideal.sqrt_coe, if_neg (by linarith), Ideal.acos_coe, if_pos ⟨g1.le, g2.le⟩, ← arccos_eq_legs c g1 g2]
  have hp : 0 ≤ √(1 - c * c) := Real.sqrt_nonneg _
  have hq : 0 < √(1 - c * c) := Real.sqrt_pos.mpr hs
  change (((if 0 < c then Real.arctan (√(1 - c * c) / c)
    else if c < 0 then if 0 ≤ √(1 - c * c) then Real.arctan (√(1 - c * c) / c) + Real.pi
        else Real.arctan (√(1 - c * c) / c) - Real.pi
      else if 0 < √(1 - c * c) then Real.pi / 2 else if √(1 - c * c) < 0 then -(Real.pi / 2) else 0 : ℝ)) : EReal) = _
  rw [if_pos hp, if_pos hq]

/-- The cosine of the largest angle kept is below every clipped logit: the angle is halved twice, and the quarter is small
enough for the cosine's first two terms to bound it. -/
theorem cos_top (hp : topR ≤ Real.pi) : Real.cos topR ≤ -hiR := by
  have quarter : Real.cos (topR / 4) ≤ 0.7117 := by
    have := (abs_le.mp (Real.cos_bound (x := topR / 4) (by unfold topR; norm_num [abs_of_pos]))).2
    rw [abs_of_pos (show (0 : ℝ) < topR / 4 by unfold topR; norm_num)] at this
    have e : (topR / 4) ^ 4 * (5 / 96) + (1 - (topR / 4) ^ 2 / 2) ≤ (0.7117 : ℝ) := by unfold topR; norm_num
    linarith
  have q0 : 0 ≤ Real.cos (topR / 4) := by
    apply Real.cos_nonneg_of_neg_pi_div_two_le_of_le
    · have : 0 ≤ topR := by unfold topR; norm_num
      linarith [Real.pi_pos]
    · linarith [Real.pi_pos]
  have half : Real.cos (topR / 2) = 2 * Real.cos (topR / 4) ^ 2 - 1 := by
    rw [← Real.cos_two_mul]; congr 1; ring
  have whole : Real.cos topR = 2 * Real.cos (topR / 2) ^ 2 - 1 := by
    rw [← Real.cos_two_mul]; congr 1; ring
  have h0 : 0 ≤ Real.cos (topR / 2) := by
    apply Real.cos_nonneg_of_neg_pi_div_two_le_of_le
    · have : 0 ≤ topR := by unfold topR; norm_num
      linarith [Real.pi_pos]
    · linarith
  have h1 : Real.cos (topR / 2) ≤ 0.0133 := by
    rw [half]; nlinarith
  rw [whole]; unfold hiR; nlinarith

/-- Clipping the angle of a clipped logit does not move it. -/
theorem bend_acos (y : EReal) : Ideal.cos (bend (Ideal.acos (clip y))) = clip y := by
  obtain ⟨c, h, h1, h2⟩ := clip_real y
  have g1 : -1 ≤ c := by unfold hiR at h1; linarith
  have g2 : c ≤ 1 := by unfold hiR at h2; linarith
  have hpi := Real.two_le_pi
  rw [h, Ideal.acos_coe, if_pos ⟨g1, g2⟩]
  have lower : epsR ≤ Real.arccos c := by
    have hc : c ≤ Real.cos epsR := by
      have := (abs_le.mp (Real.cos_bound (x := epsR) (by unfold epsR; norm_num [abs_of_pos]))).1
      rw [abs_of_pos (show (0 : ℝ) < epsR by unfold epsR; norm_num)] at this
      refine h2.trans (le_trans ?_ (show 1 - epsR ^ 2 / 2 - epsR ^ 4 * (5 / 96) ≤ Real.cos epsR by linarith))
      unfold hiR epsR; norm_num
    have he : epsR = Real.arccos (Real.cos epsR) :=
      (Real.arccos_cos (by unfold epsR; norm_num) (by unfold epsR; linarith)).symm
    rw [he]; exact Real.arccos_le_arccos hc
  have upper : Real.arccos c ≤ topR := by
    rcases le_total Real.pi topR with hp | hp
    · exact (Real.arccos_le_pi c).trans hp
    have hc : Real.cos topR ≤ c := (cos_top hp).trans h1
    have he : topR = Real.arccos (Real.cos topR) := (Real.arccos_cos (by unfold topR; norm_num) hp).symm
    rw [he]; exact Real.arccos_le_arccos hc
  unfold bend
  rw [top_word, eps_word, max_eq_right (by exact_mod_cast lower), min_eq_right (by exact_mod_cast upper), Ideal.cos_coe,
    Real.cos_arccos g1 g2]

/-- A margin taken once with a minus sign in front of the constant, once with one behind the product. -/
theorem neg_margin (s : EReal) :
    Ideal.ofBits .f32 1053609165#32 * s * Ideal.ofBits .f32 3212836864#32 = Ideal.ofBits .f32 3201092813#32 * s := by
  rw [m_word, neg_one_word, neg_m_word, mul_comm _ s, mul_assoc, ← EReal.coe_mul, mul_comm s]
  congr 2; ring

end Cert.Margin
-- ==== Proof.IdealBlock.lean ====
/-
  The margin kernel's payloads at the ideal values, element by element: the scratch column is the margin scaler of the
  embeddings' rows, and the result's block holds the loss's cells. The block computes a row's target logit as a masked
  sum along the row, which has at most one term, because a block's columns carry different numbers; so an element of the
  result depends on the logit in its own place alone.
-/
module

public import proofs.«01_k».proof.Proof.IdealStep
public import proofs.«01_k».proof.Proof.Margin
public import Idealize.ShloMosaic.Lib.Pointwise

@[expose] public section

set_option maxRecDepth 16384

noncomputable section

namespace Cert.KernelIdeal.Hand

open Cert.KernelIdeal Cert.KernelIdeal.Gen Cert.Margin
open Idealize.ShloMosaic

/-- The scratch column: the margin scaler of each row. -/
theorem scratch_apply (e : Vec Ideal S1024x512 .f32) (r : Fin 1024) :
    k0_pay2 e (ix2 r 0) = scale (fun r x => e (ix2 r x)) r := by
  pointwise [k0_pay2]
  simp only [Finset.univ_unique, Finset.sum_singleton]
  rfl

/-- The number of column `k` of the block, as the body computes it. -/
def colWord (i : grid0.Coords) (k : Fin 2048) : BitVec 32 :=
  IntOp.addi (BitVec.ofNat 32 k) (Scalar.muli (BitVec.ofNat 32 (i 0)) 2048#32)

/-- Different columns of a block have different numbers. -/
theorem colWord_inj (i : grid0.Coords) {k k' : Fin 2048} (h : colWord i k = colWord i k') : k = k' := by
  unfold colWord IntOp.addi at h
  have h := (BitVec.add_left_inj _).mp h
  have := congrArg BitVec.toNat h
  simp only [BitVec.toNat_ofNat] at this
  exact Fin.ext (by omega)

/-- The mask: one in the column the row's label numbers. -/
theorem mask_apply (i : grid0.Coords) (lab : Vec Ideal S1024x1 .i32) (r : Fin 1024) (k : Fin 2048) :
    k0_pay4 (F := Ideal) i lab (ix2 r k) = IntOp.cmpi .eq (colWord i k) (lab (ix2 r 0)) := by
  pointwise [k0_pay4, colWord]

theorem select_mask {A : Type} (a b : BitVec 32) (x y : A) :
    Scalar.select (IntOp.cmpi .eq a b) x y = if a = b then x else y := by
  unfold Scalar.select IntOp.cmpi
  by_cases h : a = b
  · simp [h]
  · simp [h, beq_eq_false_iff_ne.mpr h]

/-- The masked sum along a row, where the row's label numbers column `k`: the term there. -/
theorem masked_sum (i : grid0.Coords) (l : BitVec 32) (k : Fin 2048) (f : Fin 2048 → EReal) (h : colWord i k = l) :
    (∑ k', if colWord i k' = l then f k' else 0) = f k := by
  rw [Finset.sum_eq_single k]
  · rw [if_pos h]
  · intro k' _ hk; rw [if_neg fun h' => hk (colWord_inj i (h'.trans h.symm))]
  · intro hk; exact absurd (Finset.mem_univ k) hk

theorem fold_clip (y : EReal) :
    min (Ideal.ofBits .f32 1065336439#32) (max (Ideal.ofBits .f32 3212820087#32) y) = clip y := rfl
theorem fold_bend (y : EReal) :
    min (Ideal.ofBits .f32 1078525816#32) (max (Ideal.ofBits .f32 981668463#32) y) = bend y := rfl

/-- An element of the result's block. -/
theorem blockOut_apply (i : grid0.Coords) (lab : Vec Ideal S1024x1 .i32) (x : Vec Ideal S1024x2048 .f32)
    (s : Vec Ideal S1024x1 .f32) (r : Fin 1024) (k : Fin 2048) :
    blockOut (F := Ideal) i lab x s (ix2 r k)
      = cell (colWord i k = lab (ix2 r 0)) (clip (x (ix2 r k))) (s (ix2 r 0)) := by
  pointwise [blockOut, k0_pay1, k0_pay5, k0_pay6, k0_pay7, k0_pay3]
  simp only [mask_apply, select_mask]
  unfold cell
  by_cases h : colWord i k = lab (ix2 r 0)
  · rw [if_pos h, if_pos h]
    simp only [fold_clip, fold_bend]
    rw [masked_sum i (lab (ix2 r 0)) k (fun k' => clip (x (ix2 r k'))) h, clip_clip, atan2_legs]
    rfl
  · rw [if_neg h, if_neg h]
    rfl

end Cert.KernelIdeal.Hand
-- ==== Proof.IdealRun.lean ====
/-
  The run of the margin kernel at any float values. The invariant between points says what the scratch column holds:
  anything before the first point, the margin scaler of the embeddings from then on. Two runs are concluded: one that
  says nothing of the result array, from every memory; and one that names it, where the masked block does not depend on
  the words past the logits' end (`Settled`, which holds at the ideal values always).
-/
module

public import proofs.«01_k».proof.Proof.IdealStep
public import Idealize.ShloMosaic.Lib.Pipeline.Quiescent

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose ΦA)

variable {F : FTy → Type} [FloatOps F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-! ## The proof data -/

/-- The first grid point. -/
abbrev pt0 : Fin cfg0.N := ⟨0, by decide⟩

/-- The body takes its first branch at the first point only. -/
theorem isFirst_iff : ∀ t : Fin cfg0.N, isFirst (grid0.coords t) ↔ t.val = 0 := by decide +kernel

/-- The margin scaler the scratch carries: of the embeddings' one block. -/
def scaler (c : Dev nD) : Vec F S1024x1 .f32 := k0_pay2 (iblk m c 2 pt0)

/-- The logits' block at point `t` on a whole buffer, whatever (`d`) lies past the array's end. -/
def logitsAt (c : Dev nD) (t : Fin cfg0.N) (d : Vec F S1024x2048 .f32) : Vec F S1024x2048 .f32 :=
  win0_1.fill (grid0.coords t) d (iblk m c 1 t)

/-- What the body leaves in the result's buffer at point `t`. -/
def outAt (c : Dev nD) (t : Fin cfg0.N) (d : Vec F S1024x2048 .f32) : Vec F S1024x2048 .f32 :=
  blockOut (grid0.coords t) (iblk m c 0 t) (logitsAt m c t d) (scaler m c)

/-- A block of zero words: what the proof data puts past the arrays' end, where nothing is claimed. -/
abbrev noWords : Vec F S1024x2048 .f32 := fun _ => Scalar.ofBits .f32 0#32

/-- The invariant before position `n` of the grid. -/
def inv (c : Dev nD) (n : Fin (cfg0.N + 1)) : sProp 𝕄 :=
  if n.val = 0 then ΦA spec0 c
  else iprop(owns (c : Thread nD τ) (Memref.whole cc0_scratch0) fullShare (scaler m c) ∗ ∃ r, prngReg c r)

/-- The proof data: the inputs' blocks stay, the result's buffer gets `outAt`, the invariant is `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => logitsAt m c t noWords
    | ⟨2, _⟩ => iblk m c 2 t
    | ⟨3, _⟩ => outAt m c t noWords
  Φ n := inv m c n
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = logitsAt m c t noWords := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t noWords := by dsimp only [dats]

theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
/-- The logits' buffer was just fetched into: the block on the columns inside the array, anything past them. -/
theorem before_1 (c : Dev nD) (t : Fin cfg0.N) (d) : (dats m 0 c).before 1 t d = logitsAt m c t d := by
  unfold Dat.before; rw [if_pos (fetch0_1 t)]; rfl

/-! ## The body at a point -/

/-- Before the first point the scratch holds anything; the invariant in the two forms the body's runs take and give. -/
theorem inv_start (c : Dev nD) (n : Fin (cfg0.N + 1)) (h : n.val = 0) :
    inv m c n = iprop((∃ d, owns (c : Thread nD τ) (Memref.whole cc0_scratch0) fullShare d) ∗ ∃ r, prngReg c r) := by
  unfold inv; rw [if_pos h]; unfold ΦA; rw [scopedRest0_eq]; simp only [owns_whole]; try rfl
theorem inv_later (c : Dev nD) (n : Fin (cfg0.N + 1)) (h : n.val ≠ 0) :
    inv m c n = iprop(owns (c : Thread nD τ) (Memref.whole cc0_scratch0) fullShare (scaler m c) ∗ ∃ r, prngReg c r) := by
  unfold inv; rw [if_neg h]

/-- The body at point `t`, from the invariant and the four buffers: the inputs' buffers are kept and the result's is
    left at `outAt`. -/
theorem run_point (c : Dev nD) (t : Fin cfg0.N) (d : Vec F S1024x2048 .f32) (K : PUnit → sProp 𝕄) :
    iprop(inv m c t.castSucc ∗ owns (c : Thread nD τ) (st0_0 t) fullShare (iblk m c 0 t)
        ∗ owns (c : Thread nD τ) (st0_1 t) fullShare (logitsAt m c t d)
        ∗ owns (c : Thread nD τ) (st0_2 t) fullShare (iblk m c 2 t)
        ∗ (∃ x, owns (c : Thread nD τ) (st0_3 t) fullShare x)
        ∗ (iprop(inv m c t.succ ∗ owns (c : Thread nD τ) (st0_0 t) fullShare (iblk m c 0 t)
              ∗ owns (c : Thread nD τ) (st0_1 t) fullShare (logitsAt m c t d)
              ∗ owns (c : Thread nD τ) (st0_2 t) fullShare (iblk m c 2 t)
              ∗ owns (c : Thread nD τ) (st0_3 t) fullShare (outAt m c t d)) -∗ K ⟨⟩))
      ⊢ wp frame (wpE (defs₀ (F := F)) 𝒱₀ c none) Set.univ (bodyAt0 t) K := by
  rw [inv_later m c t.succ (by simp)]
  by_cases ht : t.val = 0
  · rw [inv_start m c t.castSucc (by simpa using ht)]
    obtain rfl : t = pt0 := Fin.ext ht
    iintro ⟨⟨HS, Hg⟩, H0, H1, H2, H3, Hk⟩
    iapply (run_first c (grid0.coords pt0) ((isFirst_iff pt0).mpr rfl) _ _ _ _ _ _ _ _ _ _ (iblk m c 0 pt0) (logitsAt m c pt0 d)
      (iblk m c 2 pt0) Set.univ K)
    isplitl [H0]; · iexact H0
    isplitl [H1]; · iexact H1
    isplitl [H2]; · iexact H2
    isplitl [H3]; · iexact H3
    isplitl [HS]; · iexact HS
    iintro ⟨H0, H1, H2, H3, HS⟩
    iapply Hk
    isplitl [HS Hg]
    · isplitl [HS]; · iexact HS
      iexact Hg
    isplitl [H0]; · iexact H0
    isplitl [H1]; · iexact H1
    isplitl [H2]; · iexact H2
    iexact H3
  · rw [inv_later m c t.castSucc (by simpa using ht)]
    iintro ⟨⟨HS, Hg⟩, H0, H1, H2, H3, Hk⟩
    iapply (run_later c (grid0.coords t) (fun h => ht ((isFirst_iff t).mp h)) _ _ _ _ _ _ _ _ _ _ (iblk m c 0 t)
      (logitsAt m c t d) (scaler m c) Set.univ K)
    isplitl [H0]; · iexact H0
    isplitl [H1]; · iexact H1
    isplitl [H3]; · iexact H3
    isplitl [HS]; · iexact HS
    iintro ⟨H0, H1, H3, HS⟩
    iapply Hk
    isplitl [HS Hg]
    · isplitl [HS]; · iexact HS
      iexact Hg
    isplitl [H0]; · iexact H0
    isplitl [H1]; · iexact H1
    isplitl [H2]; · iexact H2
    iexact H3

/-- The body table's row at the point is the kernel on the point's buffers. -/
theorem defs₀_row (t : Fin cfg0.N) : defs₀ (F := F) .tc cfg0.body (cfg0.bodyArgs t (cfg0.slots t)) = bodyAt0 t := by
  unfold defs₀; rw [Defs.onTc_tc]

/-- The logits' buffer as the body leaves it, as the pipeline states it: its block inside the array, anything past. -/
theorem logits_left (c : Dev nD) (t : Fin cfg0.N) (d : Vec F S1024x2048 .f32) :
    win0_1.fill (grid0.coords t) d (win0_1.cut (grid0.coords t) (logitsAt m c t noWords)) = logitsAt m c t d := by
  unfold logitsAt; rw [Window.cut_fill]

/-- The windows nothing is said of: the result's. -/
def unsaid : Fin 4 → Bool := ![false, false, false, true]

/-- The body obligation with the result's buffer left unsaid: from every memory. -/
theorem body_unsaid (c : Dev nD) : BodyObligationLoose (dats (F := F) m 0 c) (defs₀ (F := F)) 𝒱₀ () Set.univ unsaid := fun t => by
  rw [bigSep_W0, bigSep_W0, defs₀_row]
  simp only [unsaid]
  rw [show (dats m 0 c).owesAt () t.succ = (dats m 0 c).owesAt () t.castSucc from rfl]
  dsimp only [Matrix.cons_val]
  rw [show (dats m 0 c).Φ t.castSucc = inv m c t.castSucc from rfl, show (dats m 0 c).Φ t.succ = inv m c t.succ from rfl,
    after_0, after_1, after_2]
  iintro ⟨HΦ, Ho, ⟨%d0, H0⟩, ⟨%d1, H1⟩, ⟨%d2, H2⟩, H3⟩
  rw [before_0, before_1, before_2]
  iapply (run_point m c t d1 _)
  isplitl [HΦ]; · iexact HΦ
  isplitl [H0]; · iexact H0
  isplitl [H1]; · iexact H1
  isplitl [H2]; · iexact H2
  isplitl [H3]; · iexact H3
  iintro ⟨HΦ, H0, H1, H2, H3⟩
  isplitl [HΦ]; · iexact HΦ
  isplitl [Ho]; · iexact Ho
  isplitl [H0]; · iexact H0
  isplitl [H1]
  · iexists d1
    rw [show (win0 1).fill (grid0.coords t) d1 ((win0 1).cut (grid0.coords t) (logitsAt m c t noWords)) = logitsAt m c t d1 from
      logits_left m c t d1]
    iexact H1
  isplitl [H2]; · iexact H2
  iexists _; iexact H3

/-- The result's columns inside the array do not depend on the words past the logits' end. -/
def Settled : Prop :=
  ∀ (c : Dev nD) (t : Fin cfg0.N) (d : Vec F S1024x2048 .f32),
    win0_3.cut (grid0.coords t) (outAt m c t d) = win0_3.cut (grid0.coords t) (outAt m c t noWords)

/-- The body obligation with the result's buffer named, where it is settled. -/
theorem body_named (hs : Settled m) (c : Dev nD) :
    BodyObligationLoose (dats (F := F) m 0 c) (defs₀ (F := F)) 𝒱₀ () Set.univ := fun t => by
  rw [bigSep_W0, bigSep_W0, defs₀_row]
  simp only
  rw [show (dats m 0 c).owesAt () t.succ = (dats m 0 c).owesAt () t.castSucc from rfl]
  rw [show (dats m 0 c).Φ t.castSucc = inv m c t.castSucc from rfl, show (dats m 0 c).Φ t.succ = inv m c t.succ from rfl,
    after_0, after_1, after_2, after_3]
  iintro ⟨HΦ, Ho, ⟨%d0, H0⟩, ⟨%d1, H1⟩, ⟨%d2, H2⟩, ⟨%d3, H3⟩⟩
  rw [before_0, before_1, before_2]
  iapply (run_point m c t d1 _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]; · iexact H0
  isplitl [H1]
  · iexists d1
    rw [show (win0 1).fill (grid0.coords t) d1 ((win0 1).cut (grid0.coords t) (logitsAt m c t noWords)) = logitsAt m c t d1 from
      logits_left m c t d1]
    iexact H1
  isplitl [H2]; · iexact H2
  iexists outAt m c t d1
  rw [show (win0 3).fill (grid0.coords t) (outAt m c t d1) ((win0 3).cut (grid0.coords t) (outAt m c t noWords)) = outAt m c t d1 from by
    rw [show (win0 3).cut (grid0.coords t) (outAt m c t noWords) = (win0 3).cut (grid0.coords t) (outAt m c t d1) from (hs c t d1).symm]
    exact win0_3.fill_cut _ _]
  iexact H3

/-! ## The runs -/

/-- The scratch forgotten after the last point. -/
theorem inv_forget (c : Dev nD) (n : Fin (cfg0.N + 1)) (h : n.val ≠ 0) : inv m c n ⊢ ΦA spec0 c := by
  rw [inv_later m c n h]; unfold ΦA; rw [scopedRest0_eq]; simp only [owns_whole]
  iintro ⟨HS, Hg⟩
  isplitl [HS]; · iexists _; iexact HS
  iexact Hg

-- the run theorems' implicit arguments are found by unifying their conclusions with these, which takes unfolding plain
-- definitions in a metavariable's type
set_option backward.isDefEq.respectTransparency.types false in
/-- From every memory: every execution ends, the inputs unchanged and the counters at zero; nothing of the result. -/
theorem run_unsaid : θ_run defs (onTc (τ := τ) (main (F := F))) (s₀ m ρ)
    (fun r => Pipeline.RDat.FramePost (cfgs 0) (fun c => (dats m 0 c).toRForget unsaid) (V m) r ∧ r.2.sem = fun _ => 0) :=
  Pipeline.θ_run_frame_track_forget (Q' := _) cfgs (dats m) (0 : Fin 1) launch0 defs₀ 𝒱₀ unsaid m ρ main
    (hbody := body_unsaid m) (hshare := fun c => (dats m 0 c).share_full fun _ => rfl) (howed := fun _ _ => rfl)
    (V := V m) (hmain := hmain m 𝒱₀) (hA := A_eq m) (hin := fun c => .rfl)
    (hout := fun c => inv_forget m c (Fin.last cfg0.N) (by decide))

set_option backward.isDefEq.respectTransparency.types false in
/-- Where the result is settled: every execution ends with every array at what the proof data computes. -/
theorem run_named (hs : Settled m) : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := body_named m hs) (hshare := fun c => (dats m 0 c).share_full fun _ => rfl) (howed := fun _ _ => rfl)
    (V := V m) (hmain := hmain m 𝒱₀) (hA := A_eq m) (hin := fun c => .rfl)
    (hout := fun c => inv_forget m c (Fin.last cfg0.N) (by decide))

/-- The arguments after a run that says nothing of the result. -/
theorem args_kept {r : PUnit × MemSt nD τ sig (Elt F)}
    (h : Pipeline.RDat.FramePost (cfgs 0) (fun c => (dats (F := F) m 0 c).toRForget unsaid) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 1 rfl).trans (V_main_arg0 m c),
    ((h c).2 main_arg1 (Pipeline.mem_restRefs_of main_arg1 (by decide) (by decide))).trans (V_main_arg1 m c),
    (Pipeline.RDat.FramePost.arr_in h c 2 rfl).trans (V_main_arg2 m c)⟩

/-- The frame with the counters, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept m h.1, h.2⟩) (run_unsaid m ρ)

end Cert.KernelIdeal.Hand

end
-- ==== Proof.IdealValue.lean ====
/-
  The margin kernel's result array at the ideal values: every element is the loss's. Each block's element is a cell of
  the loss on the logit in its own place, so the words past the logits' end change nothing inside the result, and the
  49 blocks cover the result.
-/
module

public import proofs.«01_k».proof.Proof.IdealBlock
public import proofs.«01_k».proof.Proof.IdealRun
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Margin
open Idealize.ShloMosaic Idealize.ShloMosaic.TcCoe
open Idealize.ShloMosaic.Pipeline (Dat Cfg Window)
open Idealize.SL.Sem

variable (m : (ℓ : Loc nD τ sig) → Buf (Elt Ideal) ℓ) (ρ : Dev nD → PrngReg)

/-- The result array the kernel should leave, from its arguments. -/
def lossArray (X : Vec Ideal S1024x100000 .f32) (lab : Vec Ideal S1024 .i32) (e : Vec Ideal S1024x512 .f32) :
    Vec Ideal S1024x100000 .f32 :=
  fun j => loss (fun r k => X (ix2 r k)) (fun r => lab (ix1 r)) (fun r x => e (ix2 r x)) (j 0) (j 1)

/-- The labels as the region finds them: a column. -/
theorem V_labels (c : Dev nD) (r : Fin 1024) :
    V (F := Ideal) m c main_v0 (ix2 r 0) = m ((c : Thread nD τ).loc main_arg1) (ix1 r) := by
  have h : V (F := Ideal) m c main_v0 = shapeCast S1024x1 (m ((c : Thread nD τ).loc main_arg1)) shapeCasts_S1024_S1024x1 := by
    show StableHlo.after hostOps0 _ (Proc.devRef .tc main_v0) = _
    after_results
    rfl
  rw [h]
  pointwise []

/-! ## Where the blocks lie -/

theorem whole_0 : ∀ (t : Fin cfg0.N) (a : Fin 2), win0_0.index t a = 0 := by decide +kernel
theorem whole_2 : ∀ (t : Fin cfg0.N) (a : Fin 2), win0_2.index t a = 0 := by decide +kernel
theorem row_block : ∀ t : Fin cfg0.N, win0_3.index t 0 = 0 := by decide +kernel
theorem col_block : ∀ t : Fin cfg0.N, win0_3.index t 1 = t.val := by decide +kernel
theorem coord_eq : ∀ t : Fin cfg0.N, (grid0.coords t 0 : Nat) = t.val := by decide +kernel

theorem emb_row (t : Fin cfg0.N) (y : (win0_3.xblock (grid0.coords t)).Idx) : ((win0_3.rect t).emb y 0 : Nat) = y 0 := by
  rw [Pipeline.Window.rect_emb_val win0_3 t y 0, row_block]; omega
theorem emb_col (t : Fin cfg0.N) (y : (win0_3.xblock (grid0.coords t)).Idx) :
    ((win0_3.rect t).emb y 1 : Nat) = t.val * 2048 + y 1 := by
  rw [Pipeline.Window.rect_emb_val win0_3 t y 1, col_block]; rfl

theorem labels_block (c : Dev nD) (t : Fin cfg0.N) (r : Fin 1024) :
    iblk m c 0 t (ix2 r 0) = m ((c : Thread nD τ).loc main_arg1) (ix1 r) := by
  refine Eq.trans ?_ (V_labels m c r)
  change V (F := Ideal) m c main_v0 ((win0_0.rect t).emb (ix2 r 0)) = _
  congr 1
  funext a
  exact Fin.ext (Pipeline.Window.rect_emb_val_of_index_zero win0_0 t a (whole_0 t a) _)

theorem embed_block (c : Dev nD) (t : Fin cfg0.N) (r : Fin 1024) (x : Fin 512) :
    iblk m c 2 t (ix2 r x) = m ((c : Thread nD τ).loc main_arg2) (ix2 r x) := by
  refine Eq.trans ?_ (congrFun (V_main_arg2 m c) (ix2 r x))
  change V (F := Ideal) m c main_arg2 ((win0_2.rect t).emb (ix2 r x)) = _
  congr 1
  funext a
  exact Fin.ext (Pipeline.Window.rect_emb_val_of_index_zero win0_2 t a (whole_2 t a) _)

/-- An element of the logits' block that lies inside the array. -/
theorem logits_block (c : Dev nD) (t : Fin cfg0.N) (d : Vec Ideal S1024x2048 .f32)
    (y : (win0_3.xblock (grid0.coords t)).Idx) :
    logitsAt m c t d (win0_3.xinj (grid0.coords t) y) = m ((c : Thread nD τ).loc main_arg0) ((win0_3.rect t).emb y) := by
  refine (win0_1.fill_xinj (grid0.coords t) d (iblk m c 1 t) y).trans ?_
  exact congrFun (V_main_arg0 m c) ((win0_3.rect t).emb y)

/-- The number of a block's column is the number of its column in the array. -/
theorem colWord_eq (t : Fin cfg0.N) (k : Fin 2048) :
    colWord (grid0.coords t) k = BitVec.ofNat 32 (t.val * 2048 + k.val) := by
  unfold colWord IntOp.addi
  change BitVec.ofNat 32 k.val + BitVec.ofNat 32 (grid0.coords t 0 : Nat) * 2048#32 = _
  rw [coord_eq, ← BitVec.ofNat_mul, ← BitVec.ofNat_add, Nat.add_comm]

/-- An element of the result's block that lies inside the array, whatever lies past the logits' end. -/
theorem outAt_apply (c : Dev nD) (t : Fin cfg0.N) (d : Vec Ideal S1024x2048 .f32)
    (y : (win0_3.xblock (grid0.coords t)).Idx) :
    outAt m c t d (win0_3.xinj (grid0.coords t) y)
      = lossArray (m ((c : Thread nD τ).loc main_arg0)) (m ((c : Thread nD τ).loc main_arg1))
          (m ((c : Thread nD τ).loc main_arg2)) ((win0_3.rect t).emb y) := by
  obtain ⟨r, k, h, hr, hk⟩ : ∃ (r : Fin 1024) (k : Fin 2048), win0_3.xinj (grid0.coords t) y = ix2 r k
      ∧ r.val = (y 0).val ∧ k.val = (y 1).val :=
    ⟨win0_3.xinj (grid0.coords t) y 0, win0_3.xinj (grid0.coords t) y 1, by funext a; fin_cases a <;> rfl, rfl, rfl⟩
  have hx := logits_block m c t d y
  obtain ⟨R, K, H⟩ : ∃ (R : Fin 1024) (K : Fin 100000), (win0_3.rect t).emb y = ix2 R K :=
    ⟨(win0_3.rect t).emb y 0, (win0_3.rect t).emb y 1, by funext a; fin_cases a <;> rfl⟩
  have hR : R = r := by
    have := emb_row t y; rw [H] at this; exact Fin.ext (this.trans hr.symm)
  have hK : K.val = t.val * 2048 + k.val := by
    have := emb_col t y; rw [H] at this; rw [hk]; exact this
  subst hR
  rw [H] at hx ⊢
  rw [h] at hx ⊢
  unfold outAt
  rw [blockOut_apply, hx, labels_block, colWord_eq, ← hK]
  unfold scaler
  rw [scratch_apply]
  simp only [embed_block]
  rfl

theorem settled : Settled (F := Ideal) m := fun c t d => by
  funext y
  exact (outAt_apply m c t d y).trans (outAt_apply m c t noWords y).symm

theorem result_eq (c : Dev nD) : (dats (F := Ideal) m 0 c).arrAt 3 cfg0.N
    = lossArray (m ((c : Thread nD τ).loc main_arg0)) (m ((c : Thread nD τ).loc main_arg1))
          (m ((c : Thread nD τ).loc main_arg2)) := by
  refine (dats m 0 c).arrAt_eq_of_covers 3 _ (by decide +kernel) fun t hf y => ?_
  rw [after_3]
  exact outAt_apply m c t noWords y

/-- Every execution ends with the loss in the result and the arguments as they were. -/
theorem run_loss : θ_run defs (onTc (τ := τ) (main (F := Ideal))) ⟨m, fun _ => 0, ρ⟩ (fun r => ∀ c : Dev nD,
      r.2.mem ((c.tc : Thread nD τ).loc main_v1)
          = lossArray (m ((c.tc : Thread nD τ).loc main_arg0)) (m ((c.tc : Thread nD τ).loc main_arg1))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono
    (fun _ h c => ⟨((h.1 c).1 3).trans (result_eq m c),
      ((h.1 c).1 1).trans (((dats m 0 c).arrAt_in 1 rfl _).trans ((A_eq m c 1).trans (V_main_arg0 m c))),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c)))⟩)
    (run_named m ρ (settled m))

end Cert.KernelIdeal.Hand
-- ==== Proof.RefCells.lean ====
/-
  The reference's three accesses by a table of index words, one pair of words a row: reading one cell of every row of the
  logits, writing one cell of every row, and adding into one cell of every row. Each is read here at an index, the
  pair of row `n` being the row's own number and a column `ℓ n` inside the matrix.
-/
module

public import proofs.«01_k».proof.Proof.Gen.ReferenceIdeal.Read
public import Idealize.ShloMosaic.Lib.Routing.OpsOne

@[expose] public section

set_option maxRecDepth 16384

noncomputable section

namespace Cert.ReferenceIdeal.Hand

open Cert.ReferenceIdeal Cert.ReferenceIdeal.Gen
open Idealize.ShloMosaic Idealize.ShloMosaic.ValueIdx Idealize.ShloMosaic.Routing

/-- One update a row, each a single cell named by a pair of words; -/
abbrev putDims := scatter_S1024x100000_S1024x2_S1024_n_01_01_1
/-- one read a row, the same way. -/
abbrev takeDims := gather_S1024x100000_S1024x2_S1024_n_01_n_n_01_1_11

/-- The start of row `n`'s update on axis `a` is word `a` of its pair, -/
theorem put_start (idx : IVec S1024x2 32) (n : Fin 1024) (a : Fin 2) :
    ScatterDims.start putDims (ix1 n) idx a = (idx (ix2 n a)).toInt := by
  fin_cases a
  · show (idx _).toInt = _
    congr 2; funext b; fin_cases b <;> rfl
  · show (idx _).toInt = _
    congr 2; funext b; fin_cases b <;> rfl

/-- and it has no extent beyond it. -/
theorem put_window (n : Fin 1024) (a : Fin 2) : ScatterDims.window putDims (ix1 n) a = 0 := by
  fin_cases a <;> rfl

/-- Pair `n` of the table is row `n` and column `ℓ n`. -/
def Pairs (idx : IVec S1024x2 32) (ℓ : Fin 1024 → Fin 100000) : Prop :=
  ∀ n : Fin 1024, idx (ix2 n 0) = BitVec.ofNat 32 n.val ∧ idx (ix2 n 1) = BitVec.ofNat 32 (ℓ n).val

variable {idx : IVec S1024x2 32} {ℓ : Fin 1024 → Fin 100000}

theorem Pairs.row (h : Pairs idx ℓ) (n : Fin 1024) : (idx (ix2 n 0)).toInt = n.val := by
  rw [(h n).1, StableHlo.Predicate.toInt_ofNat_small _ (by have := n.isLt; omega)]
theorem Pairs.col (h : Pairs idx ℓ) (n : Fin 1024) : (idx (ix2 n 1)).toInt = (ℓ n).val := by
  rw [(h n).2, StableHlo.Predicate.toInt_ofNat_small _ (by have := (ℓ n).isLt; omega)]

/-- Row `n`'s update lands at row `n`, column `ℓ n`. -/
theorem put_lands (h : Pairs idx ℓ) (n r : Fin 1024) (k : Fin 100000) :
    ScatterDims.resultIdx? putDims (ix1 n) idx = some (ix2 r k) ↔ n = r ∧ ℓ n = k := by
  rw [resultIdx?_ix2, put_start, put_start, put_window, put_window, h.row, h.col, Fin.ext_iff, Fin.ext_iff]
  omega

/-- Writing one cell of every row. -/
theorem put_set {A : Type} (h : Pairs idx ℓ) (x : S1024x100000.Idx → A) (u : S1024.Idx → A) (r : Fin 1024) (k : Fin 100000) :
    Host.scatter putDims (fun _ b => b) x idx u (ix2 r k) = if ℓ r = k then u (ix1 r) else x (ix2 r k) := by
  by_cases hk : ℓ r = k
  · rw [if_pos hk]
    refine scatter_set_hit _ x idx u _ _ (fun j hj => ?_) (ix1 r) ((put_lands h r r k).mpr ⟨rfl, hk⟩)
    obtain ⟨n, rfl⟩ : ∃ n, j = ix1 n := ⟨j 0, eq_ix1 j⟩
    rw [((put_lands h n r k).mp hj).1]
  · rw [if_neg hk]
    refine scatter_set_miss _ x idx u _ fun j hj => ?_
    obtain ⟨n, rfl⟩ : ∃ n, j = ix1 n := ⟨j 0, eq_ix1 j⟩
    obtain ⟨rfl, e⟩ := (put_lands h n r k).mp hj
    exact hk e

/-- Adding into one cell of every row. -/
theorem put_add (h : Pairs idx ℓ) (x : FVec Ideal S1024x100000 .f32) (u : FVec Ideal S1024 .f32) (r : Fin 1024) (k : Fin 100000) :
    Host.scatterAdd putDims x idx u (ix2 r k) = x (ix2 r k) + if ℓ r = k then u (ix1 r) else 0 := by
  show Ideal.hostScatterAdd putDims x idx u (ix2 r k) = _
  unfold Ideal.hostScatterAdd
  congr 1
  by_cases hk : ℓ r = k
  · rw [if_pos hk]
    refine Finset.sum_eq_single_of_mem (ix1 r) (Finset.mem_filter.mpr ⟨Finset.mem_univ _, (put_lands h r r k).mpr ⟨rfl, hk⟩⟩)
      fun j hj hne => ?_
    obtain ⟨n, rfl⟩ : ∃ n, j = ix1 n := ⟨j 0, eq_ix1 j⟩
    exact absurd (congrArg ix1 ((put_lands h n r k).mp (Finset.mem_filter.mp hj).2).1) hne
  · rw [if_neg hk]
    refine Finset.sum_eq_zero fun j hj => ?_
    obtain ⟨n, rfl⟩ : ∃ n, j = ix1 n := ⟨j 0, eq_ix1 j⟩
    obtain ⟨rfl, e⟩ := (put_lands h n r k).mp (Finset.mem_filter.mp hj).2
    exact absurd e hk

/-- The start of row `n`'s read on axis `a` is word `a` of its pair, kept inside the matrix. -/
theorem take_start (n : Fin 1024) (a : Fin 2) :
    GatherDims.start takeDims (ix1 n) idx a = min (idx (ix2 n a)).toInt.toNat (S1024x100000.size a - 1) := by
  fin_cases a
  · show min (idx _).toInt.toNat _ = _
    congr 4; funext b; fin_cases b <;> rfl
  · show min (idx _).toInt.toNat _ = _
    congr 4; funext b; fin_cases b <;> rfl

/-- Reading one cell of every row. -/
theorem take_cell {A : Type} (h : Pairs idx ℓ) (x : S1024x100000.Idx → A) (r : Fin 1024) :
    Host.gather takeDims x idx (ix1 r) = x (ix2 r (ℓ r)) := by
  unfold Host.gather
  congr 1
  funext a
  apply Fin.ext
  show GatherDims.start takeDims (ix1 r) idx a + GatherDims.batchCoord takeDims (ix1 r) a + GatherDims.offCoord takeDims (ix1 r) a = _
  rw [take_start]
  fin_cases a
  · show min (idx (ix2 r 0)).toInt.toNat (1024 - 1) + 0 + 0 = r.val
    rw [h.row]; have := r.isLt; omega
  · show min (idx (ix2 r 1)).toInt.toNat (100000 - 1) + 0 + 0 = (ℓ r).val
    rw [h.col]; have := (ℓ r).isLt; omega

end Cert.ReferenceIdeal.Hand
-- ==== Proof.RefRows.lean ====
/-
  What the reference computes once a row, read at the row: the clamped logit, the clamped length of the row's embedding,
  its mean and deviation over the rows, and the row's margin scaler. Each is the quantity of that name in the margin's own terms.
-/
module

public import proofs.«01_k».proof.Proof.RefCells
public import proofs.«01_k».proof.Proof.Margin

@[expose] public section

set_option maxRecDepth 16384

noncomputable section

namespace Cert.ReferenceIdeal.Hand

open Cert.ReferenceIdeal Cert.ReferenceIdeal.Gen Cert.ReferenceIdeal.Read Cert.Margin
open Idealize.ShloMosaic Idealize.ShloMosaic.ValueIdx Idealize.ShloMosaic.Routing

variable (X : FVec Ideal S1024x100000 .f32) (lab : IVec S1024 32) (e : FVec Ideal S1024x512 .f32)

/-- The embeddings by row and coordinate. -/
abbrev rowsOf : Fin 1024 → Fin 512 → EReal := fun r x => e (ix2 r x)

theorem logit_apply (i : S1024x100000.Idx) : val_main_v1 (F := Ideal) X i = clip (X i) := by
  rw [val_main_v1_apply, val_main_call0_v2_apply, val_main_call0_v4_apply, val_main_call0_v1_apply]; rfl

/-- A row's number is already inside the table, so the reference's wrap of a negative one leaves it. -/
theorem rowWord_apply (i : S1024.Idx) :
    val_main_v6 (F := Ideal) i = BitVec.ofNat 32 (i 0).val ∧ val_main_v22 (F := Ideal) i = BitVec.ofNat 32 (i 0).val
      ∧ val_main_v54 (F := Ideal) i = BitVec.ofNat 32 (i 0).val ∧ val_main_v75 (F := Ideal) i = BitVec.ofNat 32 (i 0).val := by
  have hlt : (BitVec.ofNat 32 (i 0).val).toNat < 2 ^ 31 := by
    have : (i 0).val < 1024 := (i 0).isLt
    rw [BitVec.toNat_ofNat]; omega
  refine ⟨?_, ?_, ?_, ?_⟩
  · rw [val_main_v6_apply, val_main_v3_apply, val_main_v2_apply]; exact wrap_of_lt _ _ hlt
  · rw [val_main_v22_apply, val_main_v19_apply, val_main_v18_apply]; exact wrap_of_lt _ _ hlt
  · rw [val_main_v54_apply, val_main_v51_apply, val_main_v50_apply]; exact wrap_of_lt _ _ hlt
  · rw [val_main_v75_apply, val_main_v72_apply, val_main_v71_apply]; exact wrap_of_lt _ _ hlt

theorem safe_apply (r : Fin 1024) (z : Fin 1) : val_main_v17 (F := Ideal) e (ix2 r z) = safe (rowsOf e) r := by
  have hi : ∀ x : Fin 512, idx_main_call1_v1 (idx_main_call1_v2 (ix2 r z)) x = ix2 r x := fun x => by
    funext a; fin_cases a <;> rfl
  rw [val_main_v17_apply, val_main_call2_v2_apply, val_main_call2_v4_apply, val_main_call2_v1_apply, val_main_v16_apply,
    val_main_call1_v2_apply, val_main_call1_v1_apply]
  simp only [hi, val_main_call1_v0_apply, val_main_call1_cst_apply, Ideal.hostUnary_sqrt_def]
  rw [show (FloatOps.ofBits FTy.f32 0x00000000#32 : Ideal .f32) = 0 from Ideal.ofBits_zero_f32, zero_add]
  rfl

/-- The reference's read of the lengths by row number is the lengths. -/
theorem length_apply (r : Fin 1024) (z : Fin 1) : val_main_v24 (F := Ideal) e (ix2 r z) = safe (rowsOf e) r := by
  unfold val_main_v24
  refine (gather_row (nb := 1024) (B := 1) (n := 1024) gather_S1024x1_S1024x1_S1024x1_1_0_n_n_0_1_11 rfl rfl rfl rfl rfl _ _ r z r ?_
    (by norm_num)).trans (safe_apply e r z)
  rw [val_main_v23_apply, (rowWord_apply _).2.1]

theorem sum_rows (f : S1024x1.Idx → EReal) : ∑ j : S1024x1.Idx, f j = ∑ r : Fin 1024, f (ix2 r 0) := by
  rw [sum_idx2]
  exact Finset.sum_congr rfl fun r _ => Fintype.sum_unique _

theorem mean_apply (i : S_.Idx) : val_main_v26 (F := Ideal) e i = mean (rowsOf e) := by
  rw [val_main_v26_apply, val_main_v25_apply, sum_rows]
  simp only [length_apply, val_main_cst_8_apply, val_main_cst_9_apply, Ideal.hostDivf_def]
  rw [show (FloatOps.ofBits FTy.f32 0x00000000#32 : Ideal .f32) = 0 from Ideal.ofBits_zero_f32, zero_add]
  rfl

/-- The mean the reference's deviation takes its differences from is the same mean. -/
theorem centre_apply (i : S1x1.Idx) : val_main_call3_call0_v3 (F := Ideal) e i = mean (rowsOf e) := by
  rw [val_main_call3_call0_v3_apply, val_main_call3_call0_v1_apply, val_main_call3_call0_v2_apply,
    val_main_call3_call0_v0_apply, sum_rows]
  simp only [length_apply, val_main_call3_call0_cst_apply, val_main_call3_call0_cst_0_apply, Ideal.hostDivf_def]
  rw [show (FloatOps.ofBits FTy.f32 0x00000000#32 : Ideal .f32) = 0 from Ideal.ofBits_zero_f32, zero_add]
  rfl

/-- The deviation divides by the rows less one, -/
theorem divisor_apply (i : S_.Idx) : val_main_call3_call0_v8 (F := Ideal) i = ((1023 : ℝ) : EReal) := by
  rw [val_main_call3_call0_v8_apply, val_main_call3_call0_cst_1_apply, val_main_call3_call0_v7_apply]
  show Ideal.ofBits .f32 1149239296#32 - (((1#32 : BitVec 32).toInt : ℝ) : EReal) = _
  rw [rows_word, ← EReal.coe_sub]
  norm_num

/-- which is positive, so the quotient is what it takes. -/
theorem variance_apply (i : S_.Idx) : val_main_call3_v0 (F := Ideal) e i
    = Ideal.div (∑ r, (safe (rowsOf e) r - mean (rowsOf e)) * (safe (rowsOf e) r - mean (rowsOf e))) (Ideal.ofBits .f32 1149222912#32) := by
  have hpos : val_main_call3_call0_v11 (F := Ideal) i = 1#1 := by
    rw [val_main_call3_call0_v11_apply, divisor_apply, val_main_call3_call0_cst_3_apply, Ideal.cmpf_def,
      show (FloatOps.ofBits FTy.f32 0x00000000#32 : Ideal .f32) = 0 from Ideal.ofBits_zero_f32]
    have : (0 : EReal) < ((1023 : ℝ) : EReal) := by rw [← EReal.coe_zero, EReal.coe_lt_coe_iff]; norm_num
    simp [Ideal.cmp, this]
  rw [val_main_call3_v0_apply, hpos, val_main_call3_call0_v10_apply, divisor_apply, val_main_call3_call0_v9_apply, sum_rows]
  simp only [val_main_call3_call0_v6_apply, val_main_call3_call0_v5_apply, val_main_call3_call0_v4_apply, centre_apply,
    length_apply, val_main_call3_call0_cst_2_apply, Ideal.hostDivf_def]
  rw [show (FloatOps.ofBits FTy.f32 0x00000000#32 : Ideal .f32) = 0 from Ideal.ofBits_zero_f32, zero_add, rows_less_one_word]
  rfl

theorem std_apply (i : S_.Idx) : val_main_v27 (F := Ideal) e i = std (rowsOf e) := by
  rw [val_main_v27_apply, variance_apply]; rfl

/-- The running statistics start afresh: one times the batch's and nothing of the past. -/
theorem settled_mean (i : S_.Idx) : val_main_v29 (F := Ideal) e i = mean (rowsOf e) := by
  rw [val_main_v29_apply, val_main_v28_apply, mean_apply]
  show mean (rowsOf e) * Ideal.ofBits .f32 1065353216#32 + Ideal.ofBits .f32 0#32 = _
  rw [Ideal.ofBits_one_f32, Ideal.ofBits_zero_f32, mul_one, add_zero]

theorem settled_std (i : S_.Idx) : val_main_v31 (F := Ideal) e i = std (rowsOf e) := by
  rw [val_main_v31_apply, val_main_v30_apply, std_apply]
  show std (rowsOf e) * Ideal.ofBits .f32 1065353216#32 + Ideal.ofBits .f32 0#32 = _
  rw [Ideal.ofBits_one_f32, Ideal.ofBits_zero_f32, mul_one, add_zero]

/-- The row's margin scaler. -/
theorem scale_apply (r : Fin 1024) : val_main_v40 (F := Ideal) e (ix1 r) = scale (rowsOf e) r := by
  have hi : idx_main_v40 (ix1 r) = ix2 r 0 := by
    funext a
    fin_cases a
    · exact Fin.ext (Nat.div_one _)
    · rfl
  rw [val_main_v40_apply, hi, val_main_v39_apply, val_main_call4_v2_apply, val_main_call4_v4_apply, val_main_call4_v1_apply,
    val_main_v38_apply, val_main_v36_apply, val_main_v33_apply, val_main_v32_apply, val_main_v35_apply, val_main_v34_apply,
    val_main_v37_apply, length_apply, settled_mean, settled_std]
  show min (Ideal.ofBits .f32 1065353216#32) _ = _
  rw [Ideal.ofBits_one_f32]
  rfl

end Cert.ReferenceIdeal.Hand
-- ==== Proof.RefValue.lean ====
/-
  The reference's result at the ideal values: when every label names a column, every element is the loss's. Off the
  label's column the angle's cosine gives the clamped logit back; on it the angle is scaled, taken to its cosine, and the
  additive margin taken off.
-/
module

public import proofs.«01_k».proof.Proof.RefRows
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Read Cert.Margin
open Idealize.ShloMosaic Idealize.ShloMosaic.ValueIdx Idealize.ShloMosaic.Routing

variable (X : FVec Ideal S1024x100000 .f32) (lab : IVec S1024 32) (e : FVec Ideal S1024x512 .f32)

/-- Each label names the column `ℓ` says. -/
def Names (lab : IVec S1024 32) (ℓ : Fin 1024 → Fin 100000) : Prop := ∀ r : Fin 1024, lab (ix1 r) = BitVec.ofNat 32 (ℓ r).val

variable {lab} {ℓ : Fin 1024 → Fin 100000}

/-- Such a label is inside the matrix, so the reference's wrap of a negative one leaves it. -/
theorem labWord_apply (h : Names lab ℓ) (r : Fin 1024) :
    val_main_v11 (F := Ideal) lab (ix1 r) = BitVec.ofNat 32 (ℓ r).val ∧ val_main_v59 (F := Ideal) lab (ix1 r) = BitVec.ofNat 32 (ℓ r).val
      ∧ val_main_v80 (F := Ideal) lab (ix1 r) = BitVec.ofNat 32 (ℓ r).val := by
  have hlt : (lab (ix1 r)).toNat < 2 ^ 31 := by
    have := (ℓ r).isLt
    rw [h r, BitVec.toNat_ofNat]; omega
  refine ⟨?_, ?_, ?_⟩
  · rw [val_main_v11_apply, val_main_v8_apply, val_main_v7_apply, ← h r]; exact wrap_of_lt _ _ hlt
  · rw [val_main_v59_apply, val_main_v56_apply, val_main_v55_apply, ← h r]; exact wrap_of_lt _ _ hlt
  · rw [val_main_v80_apply, val_main_v77_apply, val_main_v76_apply, ← h r]; exact wrap_of_lt _ _ hlt

/-- Two columns of words side by side, read at a row. -/
theorem beside (a b : IVec S1024x1 32) (n : Fin 1024) :
    concatenate S1024x2 1 [⟨S1024x1, a⟩, ⟨S1024x1, b⟩] concatenates_S1024x1_S1024x1_S1024x2_d1 (ix2 n 0) = a (ix2 n 0)
      ∧ concatenate S1024x2 1 [⟨S1024x1, a⟩, ⟨S1024x1, b⟩] concatenates_S1024x1_S1024x1_S1024x2_d1 (ix2 n 1) = b (ix2 n 0) := by
  refine ⟨concatenate_pair_apply_left (t := S1024x2) 1 a b _ (ix2 n 0) rfl (ix2 n 0) fun x => ?_,
    concatenate_pair_apply_right (t := S1024x2) 1 a b _ (ix2 n 1) rfl rfl (ix2 n 0) (fun x hx => ?_) rfl⟩
  · fin_cases x <;> rfl
  · fin_cases x
    · rfl
    · exact absurd rfl hx

/-- The three tables pair each row with its label's column. -/
theorem pairs_read (h : Names lab ℓ) : Pairs (val_main_v14 (F := Ideal) lab) ℓ := fun n => by
  unfold val_main_v14
  rw [(beside _ _ n).1, (beside _ _ n).2, val_main_v12_apply, val_main_v13_apply, (rowWord_apply _).1,
    show idx_main_v13 (ix2 n 0) = ix1 n from by funext a; fin_cases a; rfl, (labWord_apply h n).1]
  exact ⟨rfl, rfl⟩

theorem pairs_write (h : Names lab ℓ) : Pairs (val_main_v62 (F := Ideal) lab) ℓ := fun n => by
  unfold val_main_v62
  rw [(beside _ _ n).1, (beside _ _ n).2, val_main_v60_apply, val_main_v61_apply, (rowWord_apply _).2.2.1,
    show idx_main_v61 (ix2 n 0) = ix1 n from by funext a; fin_cases a; rfl, (labWord_apply h n).2.1]
  exact ⟨rfl, rfl⟩

theorem pairs_add (h : Names lab ℓ) : Pairs (val_main_v83 (F := Ideal) lab) ℓ := fun n => by
  unfold val_main_v83
  rw [(beside _ _ n).1, (beside _ _ n).2, val_main_v81_apply, val_main_v82_apply, (rowWord_apply _).2.2.2,
    show idx_main_v82 (ix2 n 0) = ix1 n from by funext a; fin_cases a; rfl, (labWord_apply h n).2.2]
  exact ⟨rfl, rfl⟩

/-- The label's angle, scaled. -/
theorem angle_apply (h : Names lab ℓ) (r : Fin 1024) : val_main_v49 (F := Ideal) X lab e (ix1 r)
    = Ideal.acos (clip (X (ix2 r (ℓ r)))) * (1 + Ideal.ofBits .f32 3201092813#32 * scale (rowsOf e) r) := by
  rw [val_main_v49_apply, val_main_v41_apply, val_main_v48_apply, val_main_v45_apply, val_main_v43_apply, scale_apply,
    show val_main_v15 (F := Ideal) X lab (ix1 r) = clip (X (ix2 r (ℓ r))) from
      (take_cell (pairs_read h) _ r).trans (logit_apply X _),
    val_main_v47_apply, val_main_v42_apply, val_main_v44_apply, ← neg_margin, ← Ideal.ofBits_one_f32]
  rfl

/-- The additive margin, negated. -/
theorem margin_apply (r : Fin 1024) : val_main_v70 (F := Ideal) e (ix1 r)
    = -(Ideal.ofBits .f32 1053609165#32 + Ideal.ofBits .f32 1053609165#32 * scale (rowsOf e) r) := by
  rw [val_main_v70_apply, val_main_v69_apply, val_main_v67_apply, scale_apply, val_main_v66_apply, val_main_v68_apply]
  rfl

/-- The angles, the label's own scaled, brought back to cosines. -/
theorem cosine_apply (h : Names lab ℓ) (r : Fin 1024) (k : Fin 100000) : val_main_v65 (F := Ideal) X lab e (ix2 r k)
    = Ideal.cos (bend (if ℓ r = k then
        Ideal.acos (clip (X (ix2 r (ℓ r)))) * (1 + Ideal.ofBits .f32 3201092813#32 * scale (rowsOf e) r)
      else Ideal.acos (clip (X (ix2 r k))))) := by
  have hw : val_main_v63 (F := Ideal) X lab e (ix2 r k) = _ := put_set (pairs_write h) _ _ r k
  rw [angle_apply X e h, val_main_v46_apply, logit_apply] at hw
  rw [val_main_v65_apply, val_main_v64_apply, val_main_call5_v2_apply, hw, val_main_call5_v4_apply, val_main_call5_v1_apply]
  rfl

/-- The reference's result is the loss at every element. -/
theorem result_apply (h : Names lab ℓ) (r : Fin 1024) (k : Fin 100000) : val_main_v86 (F := Ideal) X lab e (ix2 r k)
    = loss (fun r k => X (ix2 r k)) (fun r => lab (ix1 r)) (rowsOf e) r k := by
  have ha : val_main_v84 (F := Ideal) X lab e (ix2 r k) = _ := put_add (pairs_add h) _ _ r k
  rw [cosine_apply X e h, margin_apply] at ha
  have hiff : BitVec.ofNat 32 k.val = lab (ix1 r) ↔ ℓ r = k := by
    have h1 := (ℓ r).isLt
    have h2 := k.isLt
    rw [h r, Fin.ext_iff]
    refine ⟨fun q => ?_, fun q => by rw [q]⟩
    have := congrArg BitVec.toNat q
    rw [BitVec.toNat_ofNat, BitVec.toNat_ofNat] at this
    omega
  have hm : ∀ a b : Ideal .f32, FloatOps.mulf a b = (b : EReal) * (a : EReal) := fun a b => mul_comm (a : EReal) (b : EReal)
  rw [val_main_v86_apply, ha, val_main_v85_apply, val_main_cst_34_apply, hm]
  unfold loss cell
  refine congrArg (Ideal.ofBits .f32 1115684864#32 * ·) ?_
  by_cases hk : ℓ r = k
  · rw [if_pos hk, if_pos hk, if_pos (hiff.mpr hk), ← sub_eq_add_neg, hk]; rfl
  · rw [if_neg hk, if_neg hk, if_neg (fun q => hk (hiff.mp q)), bend_acos, add_zero]

end Cert.ReferenceIdeal.Hand
-- ==== Proof.Labels.lean ====
/-
  What the precondition says of the labels: every one of them names a column of the logits.
-/
module

public import proofs.«01_k».proof.Pre_valid
public import proofs.«01_k».proof.Proof.RefValue
public import Idealize.ShloMosaic.Lib.ReduceAll
public import Idealize.ShloMosaic.Lib.StableHlo.Predicate

@[expose] public section

set_option maxRecDepth 16384

noncomputable section

namespace Cert.Pre_valid.Hand

open Idealize.ShloMosaic Idealize.ShloMosaic.ValueIdx

/-- The predicate's shape relations. -/
theorem facts : Cert.Pre_valid.Facts where
  bcast_S_S1024 := by decide
  reducesTo_S1024_S_d0 := by decide
  h_S_ := by decide

/-- A word at least 0 and below 100000 is the number of a column. -/
theorem column_of_range (w : BitVec 32) (h0 : IntOp.cmpi .sge w 0#32 = 1#1) (h1 : IntOp.cmpi .slt w 100000#32 = 1#1) :
    ∃ k : Fin 100000, w = BitVec.ofNat 32 k.val := by
  simp only [IntOp.cmpi, StableHlo.Predicate.ofBool_eq_one_iff, BitVec.sle, BitVec.slt, decide_eq_true_eq] at h0 h1
  rw [show (0#32 : BitVec 32).toInt = 0 from by decide] at h0
  rw [show (100000#32 : BitVec 32).toInt = 100000 from by decide] at h1
  have hw := w.isLt
  have hn : w.toNat < 100000 := by
    rw [BitVec.toInt_eq_toNat_cond] at h0 h1
    split at h0 <;> omega
  exact ⟨⟨w.toNat, hn⟩, BitVec.eq_of_toNat_eq (by rw [BitVec.toNat_ofNat]; exact (Nat.mod_eq_of_lt hw).symm)⟩

/-- Under the precondition every label names a column. -/
theorem names (X : FVec Ideal S1024x100000 .f32) (lab : IVec S1024 32) (e : FVec Ideal S1024x512 .f32)
    (h : @Cert.Pre_valid.fn facts Ideal _ X lab e = fun _ => 1#1) :
    ∃ ℓ : Fin 1024 → Fin 100000, Cert.ReferenceIdeal.Hand.Names lab ℓ := by
  haveI : Subsingleton S_.Idx := ⟨fun a b => funext fun x => x.elim0⟩
  have hall := fun r : Fin 1024 => IntOp.andi_eq_one.1
    (Host.reduce_andi_all _ _ facts.reducesTo_S1024_S_d0 facts.h_S_ (fun x => x.elim0) (congrFun h _) (ix1 r))
  choose ℓ hℓ using fun r : Fin 1024 => column_of_range (lab (ix1 r)) (hall r).1 (hall r).2
  exact ⟨ℓ, hℓ⟩

end Cert.Pre_valid.Hand
-- ==== Proof.lean ====
/- The certificate's claims, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.IdealValue
public import proofs.«01_k».proof.Proof.RefValue
public import proofs.«01_k».proof.Proof.Labels
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments as they were and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- Where every label names a column, the reference's result is the array of losses. -/
theorem reference_result (m' : (ℓ : Loc Cert.ReferenceIdeal.nD Cert.ReferenceIdeal.τ Cert.ReferenceIdeal.sig) → Buf (Elt Ideal) ℓ)
    (c : Dev Cert.ReferenceIdeal.nD) (X : Vec Ideal Cert.KernelIdeal.S1024x100000 .f32) (lab : Vec Ideal Cert.KernelIdeal.S1024 .i32)
    (e : Vec Ideal Cert.KernelIdeal.S1024x512 .f32) (h0 : m' ((c.tc : Thread Cert.ReferenceIdeal.nD Cert.ReferenceIdeal.τ).loc Cert.ReferenceIdeal.main_arg0) = X)
    (h1 : m' ((c.tc : Thread Cert.ReferenceIdeal.nD Cert.ReferenceIdeal.τ).loc Cert.ReferenceIdeal.main_arg1) = lab)
    (h2 : m' ((c.tc : Thread Cert.ReferenceIdeal.nD Cert.ReferenceIdeal.τ).loc Cert.ReferenceIdeal.main_arg2) = e)
    (hpre : @Cert.Pre_valid.fn Cert.Pre_valid.Hand.facts Ideal _ X lab e = fun _ => 1#1) :
    Cert.ReferenceIdeal.Value.res_main_v86 m' c = Cert.KernelIdeal.Hand.lossArray X lab e := by
  obtain ⟨ℓ, hℓ⟩ := Cert.Pre_valid.Hand.names X lab e hpre
  rw [Cert.ReferenceIdeal.Read.val_main_v86_eq, h0, h1, h2]
  funext j
  obtain ⟨r, k, rfl⟩ : ∃ (r : Fin 1024) (k : Fin 100000), j = ValueIdx.ix2 r k := ⟨j 0, j 1, ValueIdx.eq_ix2 j⟩
  exact Cert.ReferenceIdeal.Hand.result_apply X e hℓ r k

theorem claim : Cert.Claim := ⟨Cert.Kernel.Gen.facts, Cert.KernelIdeal.Gen.facts, Cert.ReferenceIdeal.Gen.facts, Cert.Pre_valid.Hand.facts,
  fun m g _ => Cert.Kernel.Hand.frame m g,
  fun m g _ => Cert.KernelIdeal.Hand.frame m g,
  fun m g _ => Cert.KernelIdeal.Hand.frame m g,
  fun m g _ => reference_frame m g,
  fun m g _ => reference_frame m g,
  trivial,
  fun m g m' g' hpre hagree => ⟨fun c => Cert.KernelIdeal.Hand.lossArray _ _ _,
    Cert.KernelIdeal.Hand.run_loss m g,
    (θ_run Cert.ReferenceIdeal.defs _ _).mono
      (fun r h c => ⟨(h c).1.trans (reference_result m' c _ _ _ (hagree c).1 (hagree c).2.1 (hagree c).2.2 (hpre c)), (h c).2⟩)
      (Cert.ReferenceIdeal.Value.run (F := Ideal) m' g')⟩⟩

end Cert.Proof

end
